-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_head_is_finite [hPre_head_is_finite : Cert.Pre_head_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_head_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_head_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_head_is_finite [hPre_head_is_finite : Cert.Pre_head_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_head_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_head_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_head_is_finite [hKernelIdeal : Cert.KernelIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_head_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_head_is_finite [hReferenceIdeal : Cert.ReferenceIdeal.Facts] [hPre_head_is_finite : Cert.Pre_head_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_head_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_head_is_finite [hKernelIdeal : Cert.KernelIdeal.Facts] [hReferenceIdeal : Cert.ReferenceIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_head_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_head_is_finite : Cert.Pre_head_is_finite.Facts),
    quiescent_Kernel (hKernel := hKernel)
    ∧ quiescent_KernelIdeal (hKernelIdeal := hKernelIdeal)
    ∧ quiescent_KernelIdeal_pre_head_is_finite (hKernelIdeal := hKernelIdeal) (hPre_head_is_finite := hPre_head_is_finite)
    ∧ quiescent_ReferenceIdeal (hReferenceIdeal := hReferenceIdeal)
    ∧ quiescent_ReferenceIdeal_pre_head_is_finite (hReferenceIdeal := hReferenceIdeal) (hPre_head_is_finite := hPre_head_is_finite)
    ∧ preserves_Kernel_KernelIdeal
    ∧ algebraic_KernelIdeal_ReferenceIdeal_pre_head_is_finite (hKernelIdeal := hKernelIdeal) (hReferenceIdeal := hReferenceIdeal) (hPre_head_is_finite := hPre_head_is_finite)
-- ==== Pre_head_is_finite.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S512x1 : S_.BroadcastsInDim S512x1 (![] : Fin 0 → Fin S512x1.rank)
  bcast_S_S1 : S_.BroadcastsInDim S1 (![] : Fin 0 → Fin S1.rank)

variable [Facts]

def fn {F : FTy → Type} [FloatOps F] (main_arg0 : FVec F S100000x512 .f32) (main_arg1 : IVec S100000 32) (main_arg2 : FVec F S512x512 .f32) (main_arg3 : FVec F S512 .f32) (main_arg4 : FVec F S512x1 .f32) (main_arg5 : FVec F S1 .f32) : IVec S512x1 1 × IVec S1 1 :=
  let main_v0 : FVec F S512x1 .f32 := Host.absf main_arg4
  let main_cst : FVec F S_ .f32 := constant S_ .f32 0x7F800000#32
  let main_v1 : FVec F S512x1 .f32 := broadcastInDim S512x1 ![] bcast_S_S512x1 main_cst
  let main_v2 : IVec S512x1 1 := cmpf .olt main_v0 main_v1
  let main_v3 : FVec F S1 .f32 := Host.absf main_arg5
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  (main_v2, main_v5)
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S20x1x5000 : Shape := ⟨3, ![20, 1, 5000]⟩
abbrev S1x512 : Shape := ⟨2, ![1, 512]⟩
abbrev S64x512 : Shape := ⟨2, ![64, 512]⟩
abbrev S5000x512 : Shape := ⟨2, ![5000, 512]⟩
abbrev S1x1x5000 : Shape := ⟨3, ![1, 1, 5000]⟩
abbrev S64x1 : Shape := ⟨2, ![64, 1]⟩
abbrev S1x5000 : Shape := ⟨2, ![1, 5000]⟩
abbrev S64x5000 : Shape := ⟨2, ![64, 5000]⟩
abbrev S5000x1 : Shape := ⟨2, ![5000, 1]⟩

abbrev nBuf : Space → Nat
  | .hbm => 10
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S20x1x5000, .i32⟩
  | .hbm, ⟨7, _⟩ => ⟨S1x512, .f32⟩
  | .hbm, ⟨8, _⟩ => ⟨S1x512, .f32⟩
  | .hbm, ⟨9, _⟩ => ⟨S64x512, .f32⟩
  | .local _ .vmem, ⟨0, _⟩ => ⟨S5000x512, .f32⟩
  | .local _ .vmem, ⟨1, _⟩ => ⟨S5000x512, .f32⟩
  | .local _ .vmem, ⟨2, _⟩ => ⟨S1x1x5000, .i32⟩
  | .local _ .vmem, ⟨3, _⟩ => ⟨S1x1x5000, .i32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S64x512, .f32⟩
  | .local _ .vmem, ⟨8, _⟩ => ⟨S64x512, .f32⟩
  | .local _ .vmem, ⟨9, _⟩ => ⟨S64x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v44 : BitVec 1 := Scalar.cmpi .eq arg0 c19_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S100000x1 : Shape := ⟨2, ![100000, 1]⟩
abbrev S1x1 : Shape := ⟨2, ![1, 1]⟩
abbrev S64 : Shape := ⟨1, ![64]⟩
abbrev S64x1 : Shape := ⟨2, ![64, 1]⟩
abbrev S1x100000 : Shape := ⟨2, ![1, 100000]⟩
abbrev S64x100000 : Shape := ⟨2, ![64, 100000]⟩
abbrev S_ : Shape := ⟨0, ![]⟩
abbrev S64x512 : Shape := ⟨2, ![64, 512]⟩

abbrev nBuf : Space → Nat
  | .hbm => 62
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S100000x512, .f32⟩
  | .hbm, ⟨7, _⟩ => ⟨S1x512, .f32⟩
  | .hbm, ⟨8, _⟩ => ⟨S100000x512, .f32⟩
  | .hbm, ⟨9, _⟩ => ⟨S100000x512, .f32⟩
  | .hbm, ⟨10, _⟩ => ⟨S100000x512, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S64, .i32⟩
  | .hbm, ⟨17, _⟩ => ⟨S64x1, .i32⟩
  | .hbm, ⟨18, _⟩ => ⟨S1x100000, .i32⟩
  | .hbm, ⟨19, _⟩ => ⟨S64x100000, .i32⟩
  | .hbm, ⟨20, _⟩ => ⟨S64x100000, .i32⟩
  | .hbm, ⟨21, _⟩ => ⟨S64x100000, .i1⟩
  | .hbm, ⟨22, _⟩ => ⟨S1x100000, .f32⟩
  | .hbm, ⟨23, _⟩ => ⟨S_, .f32⟩
  | .hbm, ⟨24, _⟩ => ⟨S_, .f32⟩
  | .hbm, ⟨25, _⟩ => ⟨S64x100000, .f32⟩
  | .hbm, ⟨26, _⟩ => ⟨S64x100000, .f32⟩
  | .hbm, ⟨27, _⟩ => ⟨S64x100000, .f32⟩
  | .hbm, ⟨28, _⟩ => ⟨S_, .f32⟩
  | .hbm, ⟨29, _⟩ => ⟨S64, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S64, .f32⟩
  | .hbm, ⟨43, _⟩ => ⟨S100000x1, .i32⟩
  | .hbm, ⟨44, _⟩ => ⟨S64, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x512, .f32⟩
  | .hbm, ⟨57, _⟩ => ⟨S100000x512, .f32⟩
  | .hbm, ⟨58, _⟩ => ⟨S_, .f32⟩
  | .hbm, ⟨59, _⟩ => ⟨S64x512, .f32⟩
  | .hbm, ⟨60, _⟩ => ⟨S100000x1, .i32⟩
  | .hbm, ⟨61, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Cases.lean ====
/-
  What one grid point of the kernel leaves in its two carried scratch buffers and, at the last point, in its output
  block: the values, as terms over the point's input blocks and over what the point before left. The weighted sums
  (scratch 0) and the denominators (scratch 1) are zeroed at the first point, added to at every point, and divided at
  the last.
-/
module

public import proofs.«01_k».proof.Proof.Gen.KernelIdeal.Value
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.SL.Sem

variable {F : FTy → Type} [FloatOps F]

/-- The offsets of an access to a whole matrix are zero on both axes. -/
theorem off2 : (![0, 0] : Fin 2 → Nat) = fun _ => 0 := funext fun a => by fin_cases a <;> rfl

/-- The offsets of an access to a whole three-axis block are zero on all axes. -/
theorem off3 : (![0, 0, 0] : Fin 3 → Nat) = fun _ => 0 := funext fun a => by fin_cases a <;> rfl

/-- The weighted sums after a point: what they were, plus the block's weights times its embeddings. -/
abbrev sumStep (x0 : Vec F S5000x512 .f32) (x1 : Vec F S1x1x5000 .i32) (x2 : Vec F S512x512 .f32)
    (x3 x4 : Vec F S1x512 .f32) (a : Vec F S64x512 .f32) : Vec F S64x512 .f32 :=
  k0_pay2 (k0_pay6 x0) (k0_pay7 x0 x2 x3 x4 x1) a

/-- The denominators after a point: what they were, plus the row sums of the block's weights. -/
abbrev denStep (x0 : Vec F S5000x512 .f32) (x1 : Vec F S1x1x5000 .i32) (x2 : Vec F S512x512 .f32)
    (x3 x4 : Vec F S1x512 .f32) (d : Vec F S64x1 .f32) : Vec F S64x1 .f32 :=
  k0_pay1 (k0_pay8 x0 x2 x3 x4 x1 d)

section
variable (c : Dev nD) (i : grid0.Coords)
  (a1 : Memref sig .tc .vmem S5000x512 .f32) (h1 : a1.IsWhole) (a2 : Memref sig .tc .vmem S1x1x5000 .i32) (h2 : a2.IsWhole)
  (a3 : Memref sig .tc .vmem S512x512 .f32) (h3 : a3.IsWhole) (a4 : Memref sig .tc .vmem S1x512 .f32) (h4 : a4.IsWhole)
  (a5 : Memref sig .tc .vmem S1x512 .f32) (h5 : a5.IsWhole) (a6 : Memref sig .tc .vmem S64x512 .f32) (h6 : a6.IsWhole)
  (a7 : Memref sig .tc .vmem S64x512 .f32) (h7 : a7.IsWhole) (a8 : Memref sig .tc .vmem S64x1 .f32) (h8 : a8.IsWhole)
  (x0 : Vec F S5000x512 .f32) (x1 : Vec F S1x1x5000 .i32) (x2 : Vec F S512x512 .f32) (x3 x4 : Vec F S1x512 .f32)
  (xs0 : Vec F S64x512 .f32) (xs1 : Vec F S64x1 .f32)

/-- A middle point adds the block's contribution to the weighted sums. -/
theorem sums_B (hc0 : ¬cond0_0 i) (hc1 : ¬cond0_1 i) :
    sout0_B_0 c i a1 h1 a2 h2 a3 h3 a4 h4 a5 h5 a6 h6 a7 h7 a8 h8 hc0 hc1 x0 x1 x2 x3 x4 xs0 xs1
      = sumStep x0 x1 x2 x3 x4 xs0 := by
  unfold sout0_B_0
  rw [View.read_writes_eq_canon _ _ _ (scover0_B_0 c i a1 h1 a2 h2 a3 h3 a4 h4 a5 h5 a6 h6 a7 h7 a8 h8 hc0 hc1 x0 x1 x2 x3 x4 xs0 xs1)]
  unfold kernelRun0_B
  dsimp only
  sl_unfold_words
  rw [View.canon_unit_zero off2]
  simp only [View.readAt_eq_ld, h1.read_unread, h2.read_unread, h3.read_unread, h4.read_unread, h5.read_unread,
    h7.read_unread, View.ld_unit_zero (S := S5000x512) off2,
    View.ld_unit_zero (S := S512x512) off2, View.ld_unit_zero (S := S1x512) off2, View.ld_unit_zero (S := S64x512) off2,
    View.ld_unit_zero (S := S64x1) off2, View.ld_unit_zero (S := S1x1x5000) off3]

/-- A middle point adds the block's row sums to the denominators. -/
theorem dens_B (hc0 : ¬cond0_0 i) (hc1 : ¬cond0_1 i) :
    sout0_B_1 c i a1 h1 a2 h2 a3 h3 a4 h4 a5 h5 a6 h6 a7 h7 a8 h8 hc0 hc1 x0 x1 x2 x3 x4 xs0 xs1
      = denStep x0 x1 x2 x3 x4 xs1 := by
  unfold sout0_B_1
  rw [View.read_writes_eq_canon _ _ _ (scover0_B_1 c i a1 h1 a2 h2 a3 h3 a4 h4 a5 h5 a6 h6 a7 h7 a8 h8 hc0 hc1 x0 x1 x2 x3 x4 xs0 xs1)]
  unfold kernelRun0_B
  dsimp only
  sl_unfold_words
  rw [View.canon_unit_zero off2]
  simp only [View.readAt_eq_ld, h1.read_unread, h2.read_unread, h3.read_unread, h4.read_unread, h5.read_unread,
    h8.read_unread, View.ld_unit_zero (S := S5000x512) off2,
    View.ld_unit_zero (S := S512x512) off2, View.ld_unit_zero (S := S1x512) off2, View.ld_unit_zero (S := S64x512) off2,
    View.ld_unit_zero (S := S64x1) off2, View.ld_unit_zero (S := S1x1x5000) off3]

/-- The first point starts the weighted sums from zero. -/
theorem sums_A (hc0 : cond0_0 i) (hc1 : ¬cond0_1 i) :
    sout0_A_0 c i a1 h1 a2 h2 a3 h3 a4 h4 a5 h5 a6 h6 a7 h7 a8 h8 hc0 hc1 x0 x1 x2 x3 x4
      = sumStep x0 x1 x2 x3 x4 k0_pay4 := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  rw [View.canon_cons_unit_zero off2, View.readCov_unit_zero _ off2]
  simp only [View.readAt_eq_ld, h1.read_unread, h2.read_unread, h3.read_unread, h4.read_unread, h5.read_unread,
    View.ld_unit_zero (S := S5000x512) off2,
    View.ld_unit_zero (S := S512x512) off2, View.ld_unit_zero (S := S1x512) off2, View.ld_unit_zero (S := S64x512) off2,
    View.ld_unit_zero (S := S64x1) off2, View.ld_unit_zero (S := S1x1x5000) off3]

/-- The first point starts the denominators from zero. -/
theorem dens_A (hc0 : cond0_0 i) (hc1 : ¬cond0_1 i) :
    sout0_A_1 c i a1 h1 a2 h2 a3 h3 a4 h4 a5 h5 a6 h6 a7 h7 a8 h8 hc0 hc1 x0 x1 x2 x3 x4
      = denStep x0 x1 x2 x3 x4 k0_pay5 := by
  unfold sout0_A_1
  rw [View.read_writes_eq_canon _ _ _ (scover0_A_1 c i a1 h1 a2 h2 a3 h3 a4 h4 a5 h5 a6 h6 a7 h7 a8 h8 hc0 hc1 x0 x1 x2 x3 x4)]
  unfold kernelRun0_A
  dsimp only
  sl_unfold_words
  rw [View.canon_cons_unit_zero off2, View.readCov_unit_zero _ off2]
  simp only [View.readAt_eq_ld, h1.read_unread, h2.read_unread, h3.read_unread, h4.read_unread, h5.read_unread,
    View.ld_unit_zero (S := S5000x512) off2,
    View.ld_unit_zero (S := S512x512) off2, View.ld_unit_zero (S := S1x512) off2, View.ld_unit_zero (S := S64x512) off2,
    View.ld_unit_zero (S := S64x1) off2, View.ld_unit_zero (S := S1x1x5000) off3]

/-- The last point divides: its output block is the quotient of the final weighted sums and the final denominators. -/
theorem out_C (hc0 : ¬cond0_0 i) (hc1 : cond0_1 i) :
    out0_C_5 c i a1 h1 a2 h2 a3 h3 a4 h4 a5 h5 a6 h6 a7 h7 a8 h8 hc0 hc1 x0 x1 x2 x3 x4 xs0 xs1
      = k0_pay3 (denStep x0 x1 x2 x3 x4 xs1) (sumStep x0 x1 x2 x3 x4 xs0) := by
  unfold out0_C_5
  rw [View.read_writes_eq_canon _ _ _ (cover0_C_5 c i a1 h1 a2 h2 a3 h3 a4 h4 a5 h5 a6 h6 a7 h7 a8 h8 hc0 hc1 x0 x1 x2 x3 x4 xs0 xs1)]
  unfold kernelRun0_C
  dsimp only
  sl_unfold_words
  rw [View.canon_unit_zero off2, View.readCov_unit_zero _ off2, View.readCov_unit_zero _ off2]
  simp only [View.readAt_eq_ld, h1.read_unread, h2.read_unread, h3.read_unread, h4.read_unread, h5.read_unread,
    h7.read_unread, h8.read_unread, View.ld_unit_zero (S := S5000x512) off2,
    View.ld_unit_zero (S := S512x512) off2, View.ld_unit_zero (S := S1x512) off2, View.ld_unit_zero (S := S64x512) off2,
    View.ld_unit_zero (S := S64x1) off2, View.ld_unit_zero (S := S1x1x5000) off3]

end

end Cert.KernelIdeal.Pool

end
-- ==== Proof.Score.lean ====
/-
  The attention score of one node, and the one identity over the extended reals that the two programs differ by: a
  weighted sum divided once by the sum of the weights equals the sum of the terms weighted by the normalized weights,
  whatever real numbers the exponents are shifted by.
-/
module

public import Idealize.ShloMosaic.PureOps.Ideal
public import Mathlib.Data.EReal.Operations
public import Mathlib.Algebra.Order.BigOperators.Group.Finset
public import Mathlib.Tactic.FieldSimp
public import Mathlib.Tactic.Positivity

@[expose] public section

noncomputable section

namespace Cert.Pool

open Idealize.ShloMosaic

/-- The score of a node with embedding row `e`, before the score's own bias: the hidden layer `tanh (e·W + b)` times
    the weights `w`. -/
def rowScore (e : Fin 512 → EReal) (W : Fin 512 → Fin 512 → EReal) (b w : Fin 512 → EReal) : EReal :=
  ∑ k, w k * Ideal.tanh (∑ d, e d * W d k + b k)

/-- A sum of reals, formed over the extended reals, is the real sum. -/
theorem sum_coe {ι : Type} (S : Finset ι) (x : ι → ℝ) : ∑ n ∈ S, (x n : EReal) = ((∑ n ∈ S, x n : ℝ) : EReal) := by
  classical
  induction S using Finset.induction_on with
  | empty => simp
  | insert a S ha ih => rw [Finset.sum_insert ha, Finset.sum_insert ha, ih, EReal.coe_add]

/-- A nonnegative real factor distributes over a sum of extended reals, infinities of both signs included. -/
theorem sum_mul_coe {ι : Type} (S : Finset ι) (f : ι → EReal) (r : ℝ) (hr : 0 ≤ r) :
    (∑ n ∈ S, f n) * (r : EReal) = ∑ n ∈ S, f n * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- The hyperbolic tangent of any extended real is real. -/
theorem tanh_real (x : EReal) : ∃ r : ℝ, Ideal.tanh x = r := by
  induction x with
  | bot => exact ⟨-1, rfl⟩
  | top => exact ⟨1, rfl⟩
  | coe r => exact ⟨Real.tanh r, rfl⟩

/-- A score under real weights is real, whatever the embedding, the hidden weights and the hidden bias are. -/
theorem rowScore_real (e : Fin 512 → EReal) (W : Fin 512 → Fin 512 → EReal) (b w : Fin 512 → EReal)
    (hw : ∀ k, ∃ r : ℝ, w k = r) : ∃ r : ℝ, rowScore e W b w = r := by
  choose v hv using hw
  choose t ht using fun k => tanh_real (∑ d, e d * W d k + b k)
  refine ⟨∑ k, v k * t k, ?_⟩
  unfold rowScore
  simp only [hv, ht, ← EReal.coe_mul, sum_coe]

/-- DIVIDING ONCE OR TERM BY TERM: over a nonempty finite set, a sum weighted by positive reals and divided by the sum of
    the weights equals the sum weighted by the normalized weights, and scaling all weights by a positive real does not
    change these. The weighted terms may be infinite, of both signs. -/
theorem pool_eq {ι : Type} (S : Finset ι) (hS : S.Nonempty) (x : ι → ℝ) (hx : ∀ n, 0 < x n) (z : ℝ) (hz : 0 < z)
    (e : ι → EReal) :
    Ideal.div (∑ n ∈ S, (x n : EReal) * e n) (∑ n ∈ S, (x n : EReal))
      = ∑ n ∈ S, Ideal.div ((x n * z : ℝ) : EReal) (∑ n ∈ S, ((x n * z : ℝ) : EReal)) * e n := by
  have hX : 0 < ∑ n ∈ S, x n := Finset.sum_pos (fun n _ => hx n) hS
  rw [sum_coe, sum_coe, ← Finset.sum_mul, Ideal.div_coe hX.ne', sum_mul_coe _ _ _ (by positivity)]
  refine Finset.sum_congr rfl fun n _ => ?_
  rw [Ideal.div_coe (mul_pos hX hz).ne', ← EReal.coe_mul, mul_right_comm, ← EReal.coe_mul]
  congr 2
  field_simp

/-- The greatest of finitely many values below infinity, one of them real, is real. -/
theorem fold_max_real {ι : Type} (S : Finset ι) (f : ι → EReal) (hf : ∀ n ∈ S, f n < ⊤) {n : ι} (hn : n ∈ S)
    (hb : ⊥ < f n) : ∃ M : ℝ, S.fold max ⊥ f = M := by
  have hlt : S.fold max ⊥ f < ⊤ := (Finset.fold_max_lt _).2 ⟨bot_lt_top, hf⟩
  have hgt : ⊥ < S.fold max ⊥ f := (Finset.lt_fold_max _).2 (Or.inr ⟨n, hn, hb⟩)
  exact ⟨_, (EReal.coe_toReal hlt.ne hgt.ne').symm⟩

end Cert.Pool

end
-- ==== Proof.Block.lean ====
/-
  The kernel's block computations read at an index over the extended reals: the weight of one row of a block for one
  graph, the zero blocks, one step of the denominators and of the weighted sums, and the final quotient.
-/
module

public import proofs.«01_k».proof.Proof.Cases
public import proofs.«01_k».proof.Proof.Score
public import Idealize.ShloMosaic.Lib.Pointwise

@[expose] public section

set_option maxRecDepth 16384

noncomputable section

namespace Cert.KernelIdeal.Pool

open Cert.KernelIdeal Cert.KernelIdeal.Gen Cert.Pool
open Idealize.ShloMosaic Idealize.ShloMosaic.TcCoe

variable (x0 : Vec Ideal S5000x512 .f32) (x1 : Vec Ideal S1x1x5000 .i32) (x2 : Vec Ideal S512x512 .f32)
  (x3 x4 : Vec Ideal S1x512 .f32)

/-- Two words converted to extended reals are equal exactly when the words are. -/
theorem sitofp_eq_iff (a b : BitVec 32) :
    FloatOps.sitofp (F := Ideal) FTy.f32 a = FloatOps.sitofp (F := Ideal) FTy.f32 b ↔ a = b := by
  constructor
  · intro h
    have h' : ((a.toInt : ℝ) : EReal) = ((b.toInt : ℝ) : EReal) := h
    exact BitVec.eq_of_toInt_eq (Int.cast_injective (EReal.coe_injective h'))
  · rintro rfl; rfl

/-- The weight of row `r` of a block for graph `g`: the exponential of the row's score where the row belongs to the
    graph, zero elsewhere. -/
theorem pay7_apply (g : Fin 64) (r : Fin 5000) :
    k0_pay7 (F := Ideal) x0 x2 x3 x4 x1 (ix2 g r)
      = if x1 (ix3 0 0 r) = BitVec.ofNat 32 g.val then
          Ideal.exp (rowScore (fun d => x0 (ix2 r d)) (fun d k => x2 (ix2 d k)) (fun k => x3 (ix2 0 k)) (fun k => x4 (ix2 0 k)))
        else 0 := by
  pointwise [k0_pay7, k0_pay6]
  exact if_congr ((sitofp_eq_iff _ _).trans eq_comm) rfl rfl

/-- A step adds to a weighted sum the block's weights times the column of its embeddings. -/
theorem sumStep_apply (a : Vec Ideal S64x512 .f32) (g : Fin 64) (j : Fin 512) :
    sumStep (F := Ideal) x0 x1 x2 x3 x4 a (ix2 g j)
      = a (ix2 g j) + ∑ r : Fin 5000, k0_pay7 (F := Ideal) x0 x2 x3 x4 x1 (ix2 g r) * x0 (ix2 r j) := by
  pointwise [sumStep, k0_pay2, k0_pay6]

/-- A step adds to a denominator the block's weights. -/
theorem denStep_apply (d : Vec Ideal S64x1 .f32) (g : Fin 64) :
    denStep (F := Ideal) x0 x1 x2 x3 x4 d (ix2 g 0)
      = d (ix2 g 0) + ∑ r : Fin 5000, k0_pay7 (F := Ideal) x0 x2 x3 x4 x1 (ix2 g r) := by
  pointwise [denStep, k0_pay1, k0_pay8]

/-- The weighted sums start from zero. -/
theorem pay4_apply (g : Fin 64) (j : Fin 512) : k0_pay4 (F := Ideal) (ix2 g j) = 0 := by
  pointwise [k0_pay4]

/-- The denominators start from zero. -/
theorem pay5_apply (g : Fin 64) : k0_pay5 (F := Ideal) (ix2 g 0) = 0 := by
  pointwise [k0_pay5]

/-- The last point's quotient: the weighted sum over the denominator, zero where the denominator is not positive. -/
theorem pay3_apply (d : Vec Ideal S64x1 .f32) (a : Vec Ideal S64x512 .f32) (g : Fin 64) (j : Fin 512) :
    k0_pay3 (F := Ideal) d a (ix2 g j) = if 0 < d (ix2 g 0) then Ideal.div (a (ix2 g j)) (d (ix2 g 0)) else 0 := by
  pointwise [k0_pay3]

end Cert.KernelIdeal.Pool

end
-- ==== Proof.Reads.lean ====
/-
  The kernel's input blocks read at an index, as elements of the argument arrays: block `t` of the embeddings and of the
  graph numbers is rows `5000 t` to `5000 t + 4999`, and the weights' blocks are the whole arrays.
-/
module

public import proofs.«01_k».proof.Proof.Gen.KernelIdeal.Value
public import Idealize.ShloMosaic.Lib.Pointwise
public import Idealize.ShloMosaic.Lib.StableHlo.ReadAt

@[expose] public section

set_option maxRecDepth 16384

noncomputable section

namespace Cert.KernelIdeal.Pool

open Cert.KernelIdeal Cert.KernelIdeal.Gen
open Idealize.ShloMosaic Idealize.ShloMosaic.TcCoe

variable (m : (ℓ : Loc nD τ sig) → Buf (Elt Ideal) ℓ) (c : Dev nD)

/-- The node embeddings. -/
abbrev emb : Vec Ideal S100000x512 .f32 := m ((c : Thread nD τ).loc main_arg0)
/-- The graph number of every node. -/
abbrev seg : Vec Ideal S100000 .i32 := m ((c : Thread nD τ).loc main_arg1)
/-- The hidden layer's weights. -/
abbrev hidW : Vec Ideal S512x512 .f32 := m ((c : Thread nD τ).loc main_arg2)
/-- The hidden layer's bias. -/
abbrev hidB : Vec Ideal S512 .f32 := m ((c : Thread nD τ).loc main_arg3)
/-- The score's weights. -/
abbrev attW : Vec Ideal S512x1 .f32 := m ((c : Thread nD τ).loc main_arg4)

/-- The node at row `r` of block `t`. -/
def node (t : Fin 20) (r : Fin 5000) : Fin 100000 := ⟨t.val * 5000 + r.val, by omega⟩

/-- A grid point as the number of its block. -/
def blockNo (t : Fin cfg0.N) : Fin 20 := ⟨t.val, lt_of_lt_of_eq t.isLt N_0⟩

/-- The graph numbers laid out in blocks. -/
theorem seg_reshaped (a : Fin 20) (r : Fin 5000) : V m c main_v0 (ix3 a 0 r) = seg m c (ix1 (node a r)) := by
  unfold V
  after_reads_at
  rfl

/-- The hidden bias laid out as a row. -/
theorem hidB_reshaped (k : Fin 512) : V m c main_v1 (ix2 0 k) = hidB m c (ix1 k) := by
  unfold V
  after_reads_at

/-- The score's weights laid out as a row. -/
theorem attW_reshaped (k : Fin 512) : V m c main_v2 (ix2 0 k) = attW m c (ix2 k 0) := by
  unfold V
  after_reads_at

/-- The block index of every input window: the point's number for the embeddings and the graph numbers, zero for the
    three weight windows. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The embeddings' block. -/
theorem iblk0_apply (t : Fin cfg0.N) (r : Fin 5000) (d : Fin 512) :
    iblk m c 0 t (ix2 r d) = emb m c (ix2 (node (blockNo t) r) d) := by
  obtain ⟨h0, h1, -⟩ := index_facts t
  unfold iblk
  rw [View.read_apply]
  show V m c main_arg0 _ = _
  rw [V_main_arg0]
  congr 1
  funext a
  apply Fin.ext
  match a with
  | ⟨0, _⟩ => show win0_0.index t (0 : Fin 2) * 5000 + 1 * r.val = t.val * 5000 + r.val; omega
  | ⟨1, _⟩ => show win0_0.index t (1 : Fin 2) * 512 + 1 * d.val = d.val; omega

/-- The graph numbers' block. -/
theorem iblk1_apply (t : Fin cfg0.N) (r : Fin 5000) :
    iblk m c 1 t (ix3 0 0 r) = seg m c (ix1 (node (blockNo t) r)) := by
  obtain ⟨-, -, h0, h1, h2, -⟩ := index_facts t
  rw [← seg_reshaped]
  unfold iblk
  rw [View.read_apply]
  show V m c main_v0 _ = _
  congr 1
  funext a
  apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 5000 + 1 * r.val = r.val; omega

/-- The hidden weights' block. -/
theorem iblk2_apply (t : Fin cfg0.N) (d k : Fin 512) : iblk m c 2 t (ix2 d k) = hidW m c (ix2 d k) := by
  obtain ⟨-, -, -, -, -, h0, h1, -⟩ := index_facts t
  unfold iblk
  rw [View.read_apply]
  show V m c main_arg2 _ = _
  rw [V_main_arg2]
  congr 1
  funext a
  apply Fin.ext
  match a with
  | ⟨0, _⟩ => show win0_2.index t (0 : Fin 2) * 512 + 1 * d.val = d.val; omega
  | ⟨1, _⟩ => show win0_2.index t (1 : Fin 2) * 512 + 1 * k.val = k.val; omega

/-- The hidden bias's block. -/
theorem iblk3_apply (t : Fin cfg0.N) (k : Fin 512) : iblk m c 3 t (ix2 0 k) = hidB m c (ix1 k) := by
  obtain ⟨-, -, -, -, -, -, -, h0, h1, -⟩ := index_facts t
  rw [← hidB_reshaped]
  unfold iblk
  rw [View.read_apply]
  show V m c main_v1 _ = _
  congr 1
  funext a
  apply Fin.ext
  match a with
  | ⟨0, _⟩ => show win0_3.index t (0 : Fin 2) * 1 + 1 * 0 = 0; omega
  | ⟨1, _⟩ => show win0_3.index t (1 : Fin 2) * 512 + 1 * k.val = k.val; omega

/-- The score's weights' block. -/
theorem iblk4_apply (t : Fin cfg0.N) (k : Fin 512) : iblk m c 4 t (ix2 0 k) = attW m c (ix2 k 0) := by
  obtain ⟨-, -, -, -, -, -, -, -, -, h0, h1⟩ := index_facts t
  rw [← attW_reshaped]
  unfold iblk
  rw [View.read_apply]
  show V m c main_v2 _ = _
  congr 1
  funext a
  apply Fin.ext
  match a with
  | ⟨0, _⟩ => show win0_4.index t (0 : Fin 2) * 1 + 1 * 0 = 0; omega
  | ⟨1, _⟩ => show win0_4.index t (1 : Fin 2) * 512 + 1 * k.val = k.val; omega

end Cert.KernelIdeal.Pool

end
-- ==== Proof.Fold.lean ====
/-
  The kernel's result at an index: after the first points the two scratch buffers hold the sums over the blocks seen so
  far, by induction on the point, and the last point leaves, for a graph and a feature, the sum over all nodes of weight
  times embedding divided by the sum of the weights.
-/
module

public import proofs.«01_k».proof.Proof.Block
public import proofs.«01_k».proof.Proof.Reads
public import Mathlib.Logic.Equiv.Fin.Basic
public import Mathlib.Algebra.BigOperators.Fin

@[expose] public section

set_option maxRecDepth 16384

noncomputable section

namespace Cert.KernelIdeal.Pool

open Cert.KernelIdeal Cert.KernelIdeal.Gen Cert.KernelIdeal.Value Cert.Pool
open Idealize.ShloMosaic Idealize.ShloMosaic.TcCoe

variable (m : (ℓ : Loc nD τ sig) → Buf (Elt Ideal) ℓ) (c : Dev nD)

/-- The score of node `n`, without the score's bias. -/
def score (n : Fin 100000) : EReal :=
  rowScore (fun d => emb m c (ix2 n d)) (fun d k => hidW m c (ix2 d k)) (fun k => hidB m c (ix1 k)) (fun k => attW m c (ix2 k 0))

/-- The weight of node `n` for graph `g`: the exponential of its score where it belongs to the graph, zero elsewhere. -/
def weight (g : Fin 64) (n : Fin 100000) : EReal :=
  if seg m c (ix1 n) = BitVec.ofNat 32 g.val then Ideal.exp (score m c n) else 0

/-- The sum of `f` over the nodes of block `t` (zero past the last block). -/
def blockSum (f : Fin 100000 → EReal) (t : ℕ) : EReal := if h : t < 20 then ∑ r, f (node ⟨t, h⟩ r) else 0

/-- The sums over the twenty blocks add up to the sum over all nodes. -/
theorem sum_blockSum (f : Fin 100000 → EReal) : ∑ t ∈ Finset.range 20, blockSum f t = ∑ n, f n := by
  rw [Finset.sum_range]
  have h : ∀ t : Fin 20, blockSum f t.val = ∑ r, f (node t r) := fun t => dif_pos t.isLt
  simp only [h]
  rw [← Fintype.sum_prod_type' (f := fun t r => f (node t r)), ← Equiv.sum_comp (finProdFinEquiv (m := 20) (n := 5000))]
  refine Finset.sum_congr rfl fun p _ => congrArg f (Fin.ext ?_)
  show p.1.val * 5000 + p.2.val = p.2.val + 5000 * p.1.val
  omega

/-- The weights of block `t` are the weights of its nodes. -/
theorem pay7_iblk (t : Fin cfg0.N) (g : Fin 64) (r : Fin 5000) :
    k0_pay7 (F := Ideal) (iblk m c 0 t) (iblk m c 2 t) (iblk m c 3 t) (iblk m c 4 t) (iblk m c 1 t) (ix2 g r)
      = weight m c g (node (blockNo t) r) := by
  rw [pay7_apply, iblk1_apply]
  simp only [iblk0_apply, iblk2_apply, iblk3_apply, iblk4_apply]
  rfl

/-- One step of the denominators at point `t`. -/
theorem denStep_iblk (t : Fin cfg0.N) (d : Vec Ideal S64x1 .f32) (g : Fin 64) :
    denStep (F := Ideal) (iblk m c 0 t) (iblk m c 1 t) (iblk m c 2 t) (iblk m c 3 t) (iblk m c 4 t) d (ix2 g 0)
      = d (ix2 g 0) + blockSum (weight m c g) t.val := by
  rw [denStep_apply]
  simp only [pay7_iblk]
  unfold blockSum
  rw [dif_pos (lt_of_lt_of_eq t.isLt N_0)]
  rfl

/-- One step of the weighted sums at point `t`. -/
theorem sumStep_iblk (t : Fin cfg0.N) (a : Vec Ideal S64x512 .f32) (g : Fin 64) (j : Fin 512) :
    sumStep (F := Ideal) (iblk m c 0 t) (iblk m c 1 t) (iblk m c 2 t) (iblk m c 3 t) (iblk m c 4 t) a (ix2 g j)
      = a (ix2 g j) + blockSum (fun n => weight m c g n * emb m c (ix2 n j)) t.val := by
  rw [sumStep_apply]
  simp only [pay7_iblk, iblk0_apply]
  unfold blockSum
  rw [dif_pos (lt_of_lt_of_eq t.isLt N_0)]
  rfl

/-- The denominators and the weighted sums after point `n`, before the last: the sums over the blocks up to `n`. -/
theorem scratch_eq (g : Fin 64) (j : Fin 512) : ∀ (n : ℕ) (hn : n < cfg0.N), n < 19 →
    (outsAt0 m c n hn).2.2 (ix2 g 0) = ∑ t ∈ Finset.range (n + 1), blockSum (weight m c g) t
    ∧ (outsAt0 m c n hn).2.1 (ix2 g j)
        = ∑ t ∈ Finset.range (n + 1), blockSum (fun n => weight m c g n * emb m c (ix2 n j)) t
  | 0, hn, _ => by
    rw [outsAt0_A m c ⟨0, hn⟩ (by dsimp only) (by dsimp only; omega)]
    dsimp only
    rw [dens_A, sums_A, denStep_iblk, sumStep_iblk, pay4_apply, pay5_apply, zero_add, zero_add]
    simp
  | n + 1, hn, hl => by
    obtain ⟨ihd, iha⟩ := scratch_eq g j n (Nat.lt_of_succ_lt hn) (by omega)
    have h0 : ¬(⟨n + 1, hn⟩ : Fin cfg0.N).val % 20 = 0 := by dsimp only; omega
    have h1 : ¬(⟨n + 1, hn⟩ : Fin cfg0.N).val % 20 = 19 := by dsimp only; omega
    rw [outsAt0_B m c ⟨n + 1, hn⟩ h0 h1]
    dsimp only
    rw [dens_B, sums_B, denStep_iblk, sumStep_iblk, Finset.sum_range_succ, Finset.sum_range_succ _ (n + 1)]
    exact ⟨congrArg (· + _) ihd, congrArg (· + _) iha⟩

/-- The kernel's result for graph `g` and feature `j`. -/
theorem result_apply (g : Fin 64) (j : Fin 512) :
    G5 m c (ix2 g j)
      = if 0 < ∑ n, weight m c g n then
          Ideal.div (∑ n, weight m c g n * emb m c (ix2 n j)) (∑ n, weight m c g n)
        else 0 := by
  have hN : (19 : ℕ) < cfg0.N := lt_of_lt_of_eq (by decide) N_0.symm
  obtain ⟨hd, ha⟩ := scratch_eq m c g j 18 (Nat.lt_of_succ_lt hN) (by decide)
  rw [G5_last, ← outsAt0_sweep m c 19 hN, outsAt0_C m c ⟨19, hN⟩ (by dsimp only; omega) (by dsimp only)]
  dsimp only
  rw [out_C, pay3_apply, denStep_iblk, sumStep_iblk, ← sum_blockSum (weight m c g),
    ← sum_blockSum (fun n => weight m c g n * emb m c (ix2 n j)), Finset.sum_range_succ _ 19, Finset.sum_range_succ _ 19,
    ← hd, ← ha]

end Cert.KernelIdeal.Pool

end
-- ==== Proof.Segments.lean ====
/-
  The reference's segment operations read at an index: a scatter that adds per-node values into a table of graphs is, at
  a graph, the sum of the values of the graph's nodes, and a gather by graph number reads the graph's own entry. A node
  whose number names no graph takes part in no sum.
-/
module

public import proofs.«01_k».proof.Proof.Gen.ReferenceIdeal.Run
public import Idealize.ShloMosaic.Lib.Pointwise

@[expose] public section

set_option maxRecDepth 16384

noncomputable section

namespace Cert.ReferenceIdeal.Pool

open Cert.ReferenceIdeal Cert.ReferenceIdeal.Gen
open Idealize.ShloMosaic Idealize.ShloMosaic.TcCoe

/-- The scatter of one value per node into one value per graph. -/
abbrev sc1 := scatter_S64_S100000x1_S100000_n_0_0_1
/-- The scatter of one row per node into one row per graph. -/
abbrev sc2 := scatter_S64x512_S100000x1_S100000x512_1_0_0_1
/-- The gather of one value per node from one value per graph. -/
abbrev ga1 := gather_S64_S100000x1_S100000_n_0_n_n_0_1_1

/-- A graph number as a word, read signed, is itself. -/
theorem toInt_graph (g : Fin 64) : (BitVec.ofNat 32 g.val).toInt = (g.val : Int) := by
  have := g.isLt
  rw [BitVec.toInt_ofNat']
  simp only [Int.bmod_def]
  omega

/-- A word reads signed as a graph's number exactly when it is that number's word. -/
theorem toInt_eq_graph (v : BitVec 32) (g : Fin 64) : v.toInt = (g.val : Int) ↔ v = BitVec.ofNat 32 g.val := by
  rw [← toInt_graph g]
  exact BitVec.toInt_inj

variable (idx : IVec S100000x1 32)

/-- The row at which a node's value starts: its word, read signed. -/
theorem sc1_start (n : Fin 100000) : sc1.start (ix1 n) idx 0 = (idx (ix2 n 0)).toInt := by
  unfold ScatterDims.start
  rw [dif_pos (by decide)]
  congr 2
  funext b
  match b with
  | ⟨0, _⟩ => rfl
  | ⟨1, _⟩ => rfl

/-- The row at which a node's row starts: its word, read signed. -/
theorem sc2_start (n : Fin 100000) (l : Fin 512) : sc2.start (ix2 n l) idx 0 = (idx (ix2 n 0)).toInt := by
  unfold ScatterDims.start
  rw [dif_pos (by decide)]
  congr 2
  funext b
  match b with
  | ⟨0, _⟩ => rfl
  | ⟨1, _⟩ => rfl

/-- The row a node reads: its word, read signed and clamped to the table. -/
theorem ga1_start (n : Fin 100000) : ga1.start (ix1 n) idx 0 = min (idx (ix2 n 0)).toInt.toNat 63 := by
  unfold GatherDims.start
  rw [dif_pos (by decide)]
  congr 4
  funext b
  match b with
  | ⟨0, _⟩ => rfl
  | ⟨1, _⟩ => rfl

/-- A node's value lands at graph `g` exactly when its word is `g`. -/
theorem sc1_lands (n : Fin 100000) (g : Fin 64) :
    sc1.resultIdx? (ix1 n) idx = some (ix1 g) ↔ idx (ix2 n 0) = BitVec.ofNat 32 g.val := by
  rw [← toInt_eq_graph]
  have hs := sc1_start idx n
  have hw : sc1.window (ix1 n) 0 = 0 := rfl
  have hg := g.isLt
  unfold ScatterDims.resultIdx?
  split
  · next h =>
    have h0 := h 0
    rw [hs, hw] at h0
    constructor
    · intro e
      have e0 : (sc1.start (ix1 n) idx 0 + (sc1.window (ix1 n) 0 : Int)).toNat = g.val :=
        congrArg Fin.val (congrFun (Option.some.inj e) 0)
      rw [hs, hw] at e0
      omega
    · intro e
      refine congrArg some (funext fun a => Fin.ext ?_)
      match a with
      | ⟨0, _⟩ =>
        show (sc1.start (ix1 n) idx 0 + (sc1.window (ix1 n) 0 : Int)).toNat = g.val
        rw [hs, hw]
        omega
  · next h =>
    refine ⟨nofun, fun e => (h fun a => ?_).elim⟩
    match a with
    | ⟨0, _⟩ =>
      show 0 ≤ sc1.start (ix1 n) idx 0 + (sc1.window (ix1 n) 0 : Int)
        ∧ sc1.start (ix1 n) idx 0 + (sc1.window (ix1 n) 0 : Int) < ((64 : ℕ) : Int)
      rw [hs, hw]
      omega

/-- Feature `l` of a node's row lands at graph `g` and feature `j` exactly when the node's word is `g` and `l` is `j`. -/
theorem sc2_lands (n : Fin 100000) (l : Fin 512) (g : Fin 64) (j : Fin 512) :
    sc2.resultIdx? (ix2 n l) idx = some (ix2 g j) ↔ l = j ∧ idx (ix2 n 0) = BitVec.ofNat 32 g.val := by
  rw [← toInt_eq_graph]
  have hs := sc2_start idx n l
  have hs1 : sc2.start (ix2 n l) idx 1 = 0 := rfl
  have hw : sc2.window (ix2 n l) 0 = 0 := rfl
  have hw1 : sc2.window (ix2 n l) 1 = l.val := rfl
  have hg := g.isLt
  have hl := l.isLt
  unfold ScatterDims.resultIdx?
  split
  · next h =>
    have h0 := h 0
    rw [hs, hw] at h0
    constructor
    · intro e
      have e0 : (sc2.start (ix2 n l) idx 0 + (sc2.window (ix2 n l) 0 : Int)).toNat = g.val :=
        congrArg Fin.val (congrFun (Option.some.inj e) 0)
      have e1 : (sc2.start (ix2 n l) idx 1 + (sc2.window (ix2 n l) 1 : Int)).toNat = j.val :=
        congrArg Fin.val (congrFun (Option.some.inj e) 1)
      rw [hs, hw] at e0
      rw [hs1, hw1] at e1
      exact ⟨Fin.ext (by omega), by omega⟩
    · rintro ⟨e1, e⟩
      have e1' := congrArg Fin.val e1
      refine congrArg some (funext fun a => Fin.ext ?_)
      match a with
      | ⟨0, _⟩ =>
        show (sc2.start (ix2 n l) idx 0 + (sc2.window (ix2 n l) 0 : Int)).toNat = g.val
        rw [hs, hw]
        omega
      | ⟨1, _⟩ =>
        show (sc2.start (ix2 n l) idx 1 + (sc2.window (ix2 n l) 1 : Int)).toNat = j.val
        rw [hs1, hw1]
        omega
  · next h =>
    refine ⟨nofun, fun e => (h fun a => ?_).elim⟩
    match a with
    | ⟨0, _⟩ =>
      show 0 ≤ sc2.start (ix2 n l) idx 0 + (sc2.window (ix2 n l) 0 : Int)
        ∧ sc2.start (ix2 n l) idx 0 + (sc2.window (ix2 n l) 0 : Int) < ((64 : ℕ) : Int)
      rw [hs, hw]
      omega
    | ⟨1, _⟩ =>
      show 0 ≤ sc2.start (ix2 n l) idx 1 + (sc2.window (ix2 n l) 1 : Int)
        ∧ sc2.start (ix2 n l) idx 1 + (sc2.window (ix2 n l) 1 : Int) < ((512 : ℕ) : Int)
      rw [hs1, hw1]
      omega

/-- A scatter of per-node values: at graph `g`, the table's entry plus the values of the nodes whose word is `g`. -/
theorem scatter1_apply (x : FVec Ideal S64 .f32) (u : FVec Ideal S100000 .f32) (g : Fin 64) :
    Host.scatterAdd (F := Ideal) sc1 x idx u (ix1 g)
      = x (ix1 g) + ∑ n : Fin 100000, if idx (ix2 n 0) = BitVec.ofNat 32 g.val then u (ix1 n) else 0 := by
  show x (ix1 g) + ∑ j ∈ Finset.univ.filter (fun j => sc1.resultIdx? j idx = some (ix1 g)), u j = _
  rw [Finset.sum_filter, sum_idx1]
  exact congrArg (x (ix1 g) + ·) (Finset.sum_congr rfl fun n _ => if_congr (sc1_lands idx n g) rfl rfl)

/-- A scatter of per-node rows: at graph `g` and feature `j`, the table's entry plus feature `j` of the rows of the nodes
    whose word is `g`. -/
theorem scatter2_apply (x : FVec Ideal S64x512 .f32) (u : FVec Ideal S100000x512 .f32) (g : Fin 64) (j : Fin 512) :
    Host.scatterAdd (F := Ideal) sc2 x idx u (ix2 g j)
      = x (ix2 g j) + ∑ n : Fin 100000, if idx (ix2 n 0) = BitVec.ofNat 32 g.val then u (ix2 n j) else 0 := by
  show x (ix2 g j) + ∑ i ∈ Finset.univ.filter (fun i => sc2.resultIdx? i idx = some (ix2 g j)), u i = _
  rw [Finset.sum_filter, sum_idx2]
  refine congrArg (x (ix2 g j) + ·) (Finset.sum_congr rfl fun n _ => ?_)
  simp only [sc2_lands]
  rw [Finset.sum_eq_single j (fun l _ hl => if_neg fun h => hl h.1) (fun h => (h (Finset.mem_univ j)).elim)]
  exact if_congr ⟨fun h => h.2, fun h => ⟨rfl, h⟩⟩ rfl rfl

/-- A gather by graph number: a node whose word is `g` reads the table's entry `g`. -/
theorem gather1_apply (x : FVec Ideal S64 .f32) (n : Fin 100000) (g : Fin 64) (h : idx (ix2 n 0) = BitVec.ofNat 32 g.val) :
    Host.gather ga1 x idx (ix1 n) = x (ix1 g) := by
  unfold Host.gather
  refine congrArg x (funext fun a => Fin.ext ?_)
  have hg := g.isLt
  match a with
  | ⟨0, _⟩ =>
    show ga1.start (ix1 n) idx 0 + ga1.batchCoord (ix1 n) 0 + ga1.offCoord (ix1 n) 0 = g.val
    rw [ga1_start, show ga1.batchCoord (ix1 n) 0 = 0 from rfl, show ga1.offCoord (ix1 n) 0 = 0 from rfl, h, toInt_graph]
    omega

end Cert.ReferenceIdeal.Pool

end
-- ==== Proof.Reference.lean ====
/-
  The reference's result named stage by stage and read at an index: the scores with their bias, the greatest score of
  every graph, the shifted exponentials, their sums per graph, and the result, the sum over a graph's nodes of the
  normalized weight times the embedding.
-/
module

public import proofs.«01_k».proof.Proof.Segments
public import proofs.«01_k».proof.Proof.Score

@[expose] public section

set_option maxRecDepth 16384

noncomputable section

namespace Cert.ReferenceIdeal.Pool

open Cert.ReferenceIdeal Cert.ReferenceIdeal.Gen Cert.ReferenceIdeal.Value Cert.Pool
open Idealize.ShloMosaic Idealize.ShloMosaic.TcCoe

variable (E : FVec Ideal S100000x512 .f32) (sg : IVec S100000 32) (W : FVec Ideal S512x512 .f32) (b : FVec Ideal S512 .f32)
  (w : FVec Ideal S512x1 .f32) (b0 : FVec Ideal S1 .f32)

/-- The scores of the nodes, the score's bias included. -/
def scores : FVec Ideal S100000 .f32 :=
  shapeCast _ (addf (Host.dotGeneral dot_S100000x512_S512x1_S100000x1_1_0_0_1_n_n none
    (Host.tanh (addf (Host.dotGeneral dot_S100000x512_S512x512_S100000x512_1_0_0_1_n_n none E W)
      (broadcastInDim S100000x512 ![0, 1] bcast_S1x512_S100000x512_0_1 (broadcastInDim S1x512 ![1] bcast_S512_S1x512_1 b)))) w)
    (broadcastInDim S100000x1 ![0, 1] bcast_S1x1_S100000x1_0_1 (broadcastInDim S1x1 ![1] bcast_S1_S1x1_1 b0)))
    shapeCasts_S100000x1_S100000

/-- The nodes' graph numbers as a column, negative ones counted from the end. -/
def wrapped : IVec S100000x1 32 :=
  broadcastInDim S100000x1 ![0] bcast_S100000_S100000x1_0
    (select (cmpi .slt sg (broadcastInDim S100000 ![] bcast_S_S100000 (constantI S_ 32 0#32)))
      (addi sg (broadcastInDim S100000 ![] bcast_S_S100000 (constantI S_ 32 64#32))) sg)

/-- The nodes' graph numbers as a column. -/
def column : IVec S100000x1 32 := broadcastInDim S100000x1 ![0] bcast_S100000_S100000x1_0 sg

/-- The greatest score of every graph. -/
def maxima (s : FVec Ideal S100000 .f32) : FVec Ideal S64 .f32 :=
  Host.reduce FloatOps.maximumf
    (select (cmpi .eq (broadcastInDim S64x100000 ![0, 1] bcast_S64x1_S64x100000_0_1
        (broadcastInDim S64x1 ![0] bcast_S64_S64x1_0 (iotaInDim S64 32 0)))
      (broadcastInDim S64x100000 ![0, 1] bcast_S1x100000_S64x100000_0_1
        (broadcastInDim S1x100000 ![1] bcast_S100000_S1x100000_1 sg)))
      (broadcastInDim S64x100000 ![0, 1] bcast_S1x100000_S64x100000_0_1
        (broadcastInDim S1x100000 ![1] bcast_S100000_S1x100000_1 s))
      (broadcastInDim S64x100000 ![] bcast_S_S64x100000 (id (constant (F := Ideal) S_ .f32 0xFF800000#32))))
    (constant (F := Ideal) S_ .f32 0xFF800000#32) reducesTo_S64x100000_S64_d1 h_S_

/-- The exponentials of the scores less their graph's greatest. -/
def shifted (s : FVec Ideal S100000 .f32) : FVec Ideal S100000 .f32 :=
  Host.exp (subf s (Host.gather ga1 (maxima sg s) (wrapped sg)))

/-- The sums of the shifted exponentials per graph. -/
def denominators (q : FVec Ideal S100000 .f32) : FVec Ideal S64 .f32 :=
  Host.scatterAdd sc1 (broadcastInDim S64 ![] bcast_S_S64 (constant (F := Ideal) S_ .f32 0x00000000#32)) (column sg) q

/-- The sums of the embeddings per graph, weighted by the shifted exponentials over their graph's sum. -/
def pooled (q : FVec Ideal S100000 .f32) : FVec Ideal S64x512 .f32 :=
  Host.scatterAdd sc2 (broadcastInDim S64x512 ![] bcast_S_S64x512 (constant (F := Ideal) S_ .f32 0x00000000#32)) (column sg)
    (mulf (broadcastInDim S100000x512 ![0, 1] bcast_S100000x1_S100000x512_0_1
      (broadcastInDim S100000x1 ![0] bcast_S100000_S100000x1_0
        (Host.divf q (Host.gather ga1 (denominators sg q) (wrapped sg))))) E)

/-- The reference's result is the pooled embeddings under the shifted exponentials of the scores. -/
theorem res_eq (m : (ℓ : Loc nD τ sig) → Buf (Elt Ideal) ℓ) (c : Dev nD) :
    res_main_v44 (F := Ideal) m c
      = pooled (m ((c.tc : Thread nD τ).loc main_arg0)) (m ((c.tc : Thread nD τ).loc main_arg1))
          (shifted (m ((c.tc : Thread nD τ).loc main_arg1))
            (scores (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)))) := by
  unfold res_main_v44 pooled denominators shifted maxima wrapped column scores
  rfl

/-- A node's score with its bias: the score times the weights from the left, and the bias added. -/
theorem scores_apply (n : Fin 100000) :
    scores E W b w b0 (ix1 n)
      = rowScore (fun d => E (ix2 n d)) (fun d k => W (ix2 d k)) (fun k => b (ix1 k)) (fun k => w (ix2 k 0)) + b0 (ix1 0) := by
  unfold rowScore
  pointwise [scores]
  exact congrArg (· + _) (Finset.sum_congr rfl fun _ _ => mul_comm _ _)

/-- The column holds the nodes' graph numbers. -/
theorem column_apply (n : Fin 100000) : column sg (ix2 n 0) = sg (ix1 n) := by
  pointwise [column]

/-- A node of graph `g` keeps its number: it is not negative. -/
theorem wrapped_apply (n : Fin 100000) (g : Fin 64) (h : sg (ix1 n) = BitVec.ofNat 32 g.val) :
    wrapped sg (ix2 n 0) = BitVec.ofNat 32 g.val := by
  have hg : ¬ IntOp.cmpi .slt (BitVec.ofNat 32 g.val) 0#32 = 1#1 := by
    rw [IntOp.cmpi_slt, toInt_graph]
    simp
  pointwise [wrapped]
  rw [h]
  exact if_neg hg

/-- A graph's greatest score: the greatest over all nodes, those of other graphs counting as minus infinity. -/
theorem maxima_apply (s : FVec Ideal S100000 .f32) (g : Fin 64) :
    maxima sg s (ix1 g) = Finset.univ.fold max ⊥ fun n : Fin 100000 => if sg (ix1 n) = BitVec.ofNat 32 g.val then s (ix1 n) else ⊥ := by
  have hbot : Ideal.ofBits .f32 0xFF800000#32 = ⊥ := by simp [Ideal.ofBits, Ideal.ieee]
  pointwise [maxima]
  rw [hbot]
  refine Finset.fold_congr fun n _ => ?_
  exact if_congr (IntOp.cmpi_eq.trans eq_comm) rfl hbot

/-- The shifted exponential of a node of graph `g`. -/
theorem shifted_apply (s : FVec Ideal S100000 .f32) (n : Fin 100000) (g : Fin 64) (h : sg (ix1 n) = BitVec.ofNat 32 g.val) :
    shifted sg s (ix1 n) = Ideal.exp (s (ix1 n) - maxima sg s (ix1 g)) := by
  rw [← gather1_apply (wrapped sg) (maxima sg s) n g (wrapped_apply sg n g h)]
  rfl

/-- A graph's denominator: the sum over the graph's nodes. -/
theorem denominators_apply (q : FVec Ideal S100000 .f32) (g : Fin 64) :
    denominators sg q (ix1 g) = ∑ n with sg (ix1 n) = BitVec.ofNat 32 g.val, q (ix1 n) := by
  have h0 : broadcastInDim S64 ![] bcast_S_S64 (constant (F := Ideal) S_ .f32 0x00000000#32) (ix1 g) = 0 := by
    pointwise []
  unfold denominators
  rw [scatter1_apply, h0, zero_add, Finset.sum_filter]
  simp only [column_apply]

/-- A graph's pooled embedding: the sum over the graph's nodes of the normalized weight times the embedding. -/
theorem pooled_apply (q : FVec Ideal S100000 .f32) (g : Fin 64) (j : Fin 512) :
    pooled E sg q (ix2 g j)
      = ∑ n with sg (ix1 n) = BitVec.ofNat 32 g.val,
          Ideal.div (q (ix1 n)) (∑ n with sg (ix1 n) = BitVec.ofNat 32 g.val, q (ix1 n)) * E (ix2 n j) := by
  have h0 : broadcastInDim S64x512 ![] bcast_S_S64x512 (constant (F := Ideal) S_ .f32 0x00000000#32) (ix2 g j) = 0 := by
    pointwise []
  unfold pooled
  rw [scatter2_apply, h0, zero_add, Finset.sum_filter, ← denominators_apply]
  simp only [column_apply]
  refine Finset.sum_congr rfl fun n _ => ?_
  split
  case isFalse => rfl
  case isTrue h =>
    rw [← gather1_apply (wrapped sg) (denominators sg q) n g (wrapped_apply sg n g h)]
    pointwise []

end Cert.ReferenceIdeal.Pool

end
-- ==== Proof.Equation.lean ====
/-
  The two results are equal: under the precondition every score is real, so that a graph's greatest score is real, the
  shift by it and the bias scale all the graph's weights by one positive real, and the pooling identity applies. A graph
  without nodes gets zero from both programs.
-/
module

public import proofs.«01_k».proof.Defs
public import proofs.«01_k».proof.Proof.Fold
public import proofs.«01_k».proof.Proof.Reference
public import proofs.«01_k».proof.Proof.Gen.Pre_head_is_finite

@[expose] public section

set_option maxRecDepth 16384

noncomputable section

namespace Cert.Pool

open Idealize.ShloMosaic Idealize.ShloMosaic.TcCoe
open Cert.ReferenceIdeal.Pool (shifted pooled scores maxima maxima_apply shifted_apply pooled_apply scores_apply)

/-- A value whose absolute value compares below infinity is real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have htop : Ideal.ofBits .f32 0x7F800000#32 = ⊤ := by simp [Ideal.ofBits, Ideal.ieee]
  rw [htop] at h
  replace h : Ideal.cmp .olt (max x (-x)) ⊤ = 1#1 := h
  induction x with
  | bot => exact absurd h (by simp [Ideal.cmp])
  | top => exact absurd h (by simp [Ideal.cmp])
  | coe r => exact ⟨r, rfl⟩

/-- Under the precondition the score's weights and bias are real. -/
theorem head_real (m : (ℓ : Loc Cert.KernelIdeal.nD Cert.KernelIdeal.τ Cert.KernelIdeal.sig) → Buf (Elt Ideal) ℓ)
    (hpre : Cert.Pre_KernelIdeal_head_is_finite m) (c : Dev Cert.KernelIdeal.nD) :
    (∀ k : Fin 512, ∃ r : ℝ, Cert.KernelIdeal.Pool.attW m c (ix2 k 0) = r)
    ∧ ∃ r : ℝ, m ((c.tc : Thread Cert.KernelIdeal.nD Cert.KernelIdeal.τ).loc Cert.KernelIdeal.main_arg5) (ix1 0) = (r : EReal) := by
  obtain ⟨hw, hb⟩ := hpre c
  exact ⟨fun k => real_of_abs_lt _ (congrFun hw (ix2 k 0)), real_of_abs_lt _ (congrFun hb (ix1 0))⟩

section Arrays
open Cert.ReferenceIdeal

variable (E : FVec Ideal S100000x512 .f32) (sg : IVec S100000 32)

/-- The reference's result at a graph and a feature, for scores that are the reals `σ n + β`: the sum of exponential of
    `σ n` times embedding over the graph's nodes, divided once by the sum of the exponentials; zero for a graph without
    nodes. -/
theorem pooled_shifted (s : FVec Ideal S100000 .f32) (σ : Fin 100000 → ℝ) (β : ℝ)
    (hs : ∀ n, s (ix1 n) = (σ n : EReal) + β) (g : Fin 64) (j : Fin 512) :
    pooled E sg (shifted sg s) (ix2 g j)
      = if 0 < ∑ n, (if sg (ix1 n) = BitVec.ofNat 32 g.val then (Real.exp (σ n) : EReal) else 0) then
          Ideal.div (∑ n, (if sg (ix1 n) = BitVec.ofNat 32 g.val then (Real.exp (σ n) : EReal) else 0) * E (ix2 n j))
            (∑ n, if sg (ix1 n) = BitVec.ofNat 32 g.val then (Real.exp (σ n) : EReal) else 0)
        else 0 := by
  simp only [ite_mul, zero_mul, ← Finset.sum_filter, pooled_apply]
  generalize hS : (Finset.univ.filter fun n : Fin 100000 => sg (ix1 n) = BitVec.ofNat 32 g.val) = S
  have hmem : ∀ n, n ∈ S ↔ sg (ix1 n) = BitVec.ofNat 32 g.val := fun n => by simp [← hS]
  rcases S.eq_empty_or_nonempty with rfl | hne
  · simp
  obtain ⟨n₀, h₀⟩ := hne
  obtain ⟨M, hM⟩ : ∃ M : ℝ, maxima sg s (ix1 g) = M := by
    rw [maxima_apply]
    refine fold_max_real _ _ (fun n _ => ?_) (Finset.mem_univ n₀) ?_
    · split
      · rw [hs, ← EReal.coe_add]; exact EReal.coe_lt_top _
      · exact bot_lt_top
    · rw [if_pos ((hmem n₀).1 h₀), hs, ← EReal.coe_add]; exact EReal.bot_lt_coe _
  have hq : ∀ n ∈ S, shifted sg s (ix1 n) = ((Real.exp (σ n) * Real.exp (β - M) : ℝ) : EReal) := fun n hn => by
    rw [shifted_apply sg s n g ((hmem n).1 hn), hM, hs, ← EReal.coe_add, ← EReal.coe_sub, Ideal.exp_coe, ← Real.exp_add,
      add_sub_assoc]
  have hpos : 0 < ∑ n ∈ S, Real.exp (σ n) := Finset.sum_pos (fun n _ => Real.exp_pos _) ⟨n₀, h₀⟩
  rw [if_pos (by rw [sum_coe]; exact EReal.coe_pos.2 hpos),
    pool_eq S ⟨n₀, h₀⟩ (fun n => Real.exp (σ n)) (fun n => Real.exp_pos _) (Real.exp (β - M)) (Real.exp_pos _)]
  rw [Finset.sum_congr rfl hq]
  exact Finset.sum_congr rfl fun n hn => by rw [hq n hn]

end Arrays

/-- THE VALUE: the reference's result is the kernel's, element by element. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_head_is_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v44 (F := Ideal) m' c = Cert.KernelIdeal.Value.G5 m c := by
  obtain ⟨hw, β, hβ⟩ := head_real m hpre c
  choose σ hσ using fun n => rowScore_real (fun d => Cert.KernelIdeal.Pool.emb m c (ix2 n d))
    (fun d k => Cert.KernelIdeal.Pool.hidW m c (ix2 d k)) (fun k => Cert.KernelIdeal.Pool.hidB m c (ix1 k))
    (fun k => Cert.KernelIdeal.Pool.attW m c (ix2 k 0)) hw
  rw [Cert.ReferenceIdeal.Pool.res_eq, h0, h1, h2, h3, h4, h5]
  funext i
  obtain ⟨g, j, rfl⟩ : ∃ (g : Fin 64) (j : Fin 512), i = ix2 g j := ⟨i 0, i 1, eq_ix2 i⟩
  rw [Cert.KernelIdeal.Pool.result_apply]
  refine (pooled_shifted _ _ _ σ β (fun n => ?_) g j).trans ?_
  · rw [scores_apply, hβ]
    exact congrArg (· + _) (hσ n)
  · have hwt : ∀ n, Cert.KernelIdeal.Pool.weight m c g n
        = if Cert.KernelIdeal.Pool.seg m c (ix1 n) = BitVec.ofNat 32 g.val then (Real.exp (σ n) : EReal) else 0 := fun n => by
      unfold Cert.KernelIdeal.Pool.weight Cert.KernelIdeal.Pool.score
      rw [hσ n, Ideal.exp_coe]
    simp only [hwt]

end Cert.Pool

end
-- ==== Proof.lean ====
/-
  The certificate: the kernel and its reading over the extended reals run and leave their arguments unchanged, the
  reference does too, and with a finite scoring head the reference's result is the kernel's (Proof/Equation.lean).
-/
module

public import proofs.«01_k».proof.Defs
public import proofs.«01_k».proof.Proof.Gen.Kernel.Frame
public import proofs.«01_k».proof.Proof.Gen.KernelIdeal.Value
public import proofs.«01_k».proof.Proof.Gen.Pre_head_is_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and leaves its arguments unchanged and every counter zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories agreeing on the arguments, with a finite scoring head, both programs run and end with equal results. -/
theorem values_agree : algebraic_KernelIdeal_ReferenceIdeal_pre_head_is_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5⟩ := hagree c
  exact Cert.Pool.result_eq m m' hpre c h0 h1 h2 h3 h4 h5

/-- Everything the certificate claims. -/
theorem claim : Cert.Claim := ⟨Cert.Kernel.Gen.facts, Cert.KernelIdeal.Gen.facts, Cert.ReferenceIdeal.Gen.facts, Cert.Pre_head_is_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, (trivial : preserves_Kernel_KernelIdeal), values_agree⟩

end Cert.Proof

end
